-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x262144x384 : Shape := ⟨3, ![3, 262144, 384]⟩
abbrev S3x2048x384 : Shape := ⟨3, ![3, 2048, 384]⟩
abbrev S3x262144x320 : Shape := ⟨3, ![3, 262144, 320]⟩
abbrev S3x2048x320 : Shape := ⟨3, ![3, 2048, 320]⟩
abbrev S384x320 : Shape := ⟨2, ![384, 320]⟩
abbrev S786432x384 : Shape := ⟨2, ![786432, 384]⟩
abbrev S786432x320 : Shape := ⟨2, ![786432, 320]⟩
abbrev S6144x384 : Shape := ⟨2, ![6144, 384]⟩
abbrev S6144x320 : Shape := ⟨2, ![6144, 320]⟩
abbrev S4096x384 : Shape := ⟨2, ![4096, 384]⟩
abbrev S32x384 : Shape := ⟨2, ![32, 384]⟩
abbrev S4096x320 : Shape := ⟨2, ![4096, 320]⟩
abbrev S32x320 : Shape := ⟨2, ![32, 320]⟩
abbrev S32x128x384 : Shape := ⟨3, ![32, 128, 384]⟩
abbrev S32x1x384 : Shape := ⟨3, ![32, 1, 384]⟩
abbrev S32x128x320 : Shape := ⟨3, ![32, 128, 320]⟩
abbrev S32x1x320 : Shape := ⟨3, ![32, 1, 320]⟩

abbrev nBuf : Space → Nat
  | .hbm => 10
  | .vmem => 10
  | .smem => 0
  | _ => 0

abbrev bufTy : (tb : Table) → Fin (tcTables nBuf tb) → BufTy
  | .hbm, ⟨0, _⟩ => ⟨S3x262144x384, .fp8e4m3⟩
  | .hbm, ⟨1, _⟩ => ⟨S3x2048x384, .i8⟩
  | .hbm, ⟨2, _⟩ => ⟨S3x262144x320, .fp8e5m2⟩
  | .hbm, ⟨3, _⟩ => ⟨S3x2048x320, .i8⟩
  | .hbm, ⟨4, _⟩ => ⟨S384x320, .f32⟩
  | .hbm, ⟨5, _⟩ => ⟨S786432x384, .fp8e4m3⟩
  | .hbm, ⟨6, _⟩ => ⟨S786432x320, .fp8e5m2⟩
  | .hbm, ⟨7, _⟩ => ⟨S6144x384, .i8⟩
  | .hbm, ⟨8, _⟩ => ⟨S6144x320, .i8⟩
  | .hbm, ⟨9, _⟩ => ⟨S384x320, .f32⟩
  | .local _ .vmem, ⟨0, _⟩ => ⟨S4096x384, .fp8e4m3⟩
  | .local _ .vmem, ⟨1, _⟩ => ⟨S4096x384, .fp8e4m3⟩
  | .local _ .vmem, ⟨2, _⟩ => ⟨S32x384, .i8⟩
  | .local _ .vmem, ⟨3, _⟩ => ⟨S32x384, .i8⟩
  | .local _ .vmem, ⟨4, _⟩ => ⟨S4096x320, .fp8e5m2⟩
  | .local _ .vmem, ⟨5, _⟩ => ⟨S4096x320, .fp8e5m2⟩
  | .local _ .vmem, ⟨6, _⟩ => ⟨S32x320, .i8⟩
  | .local _ .vmem, ⟨7, _⟩ => ⟨S32x320, .i8⟩
  | .local _ .vmem, ⟨8, _⟩ => ⟨S384x320, .f32⟩
  | .local _ .vmem, ⟨9, _⟩ => ⟨S384x320, .f32⟩
  | _, _ => ⟨S3x262144x384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨1, ![192], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x384 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x384 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x320 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x320 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S384x320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x320 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S3x262144x384 : Shape := ⟨3, ![3, 262144, 384]⟩
abbrev S3x2048x384 : Shape := ⟨3, ![3, 2048, 384]⟩
abbrev S3x262144x320 : Shape := ⟨3, ![3, 262144, 320]⟩
abbrev S3x2048x320 : Shape := ⟨3, ![3, 2048, 320]⟩
abbrev S384x320 : Shape := ⟨2, ![384, 320]⟩
abbrev S3x2048x128x384 : Shape := ⟨4, ![3, 2048, 128, 384]⟩
abbrev S3x2048x1x384 : Shape := ⟨4, ![3, 2048, 1, 384]⟩
abbrev S3x2048x128x320 : Shape := ⟨4, ![3, 2048, 128, 320]⟩
abbrev S3x2048x1x320 : Shape := ⟨4, ![3, 2048, 1, 320]⟩

abbrev nBuf : Space → Nat
  | .hbm => 6
  | .vmem => 6
  | .smem => 0
  | _ => 0

abbrev bufTy : (tb : Table) → Fin (tcTables nBuf tb) → BufTy
  | .hbm, ⟨0, _⟩ => ⟨S3x262144x384, .fp8e4m3⟩
  | .hbm, ⟨1, _⟩ => ⟨S3x2048x384, .i8⟩
  | .hbm, ⟨2, _⟩ => ⟨S3x262144x320, .fp8e5m2⟩
  | .hbm, ⟨3, _⟩ => ⟨S3x2048x320, .i8⟩
  | .hbm, ⟨4, _⟩ => ⟨S384x320, .f32⟩
  | .hbm, ⟨5, _⟩ => ⟨S384x320, .f32⟩
  | .local _ .vmem, ⟨0, _⟩ => ⟨S3x262144x384, .fp8e4m3⟩
  | .local _ .vmem, ⟨1, _⟩ => ⟨S3x2048x384, .i8⟩
  | .local _ .vmem, ⟨2, _⟩ => ⟨S3x262144x320, .fp8e5m2⟩
  | .local _ .vmem, ⟨3, _⟩ => ⟨S3x2048x320, .i8⟩
  | .local _ .vmem, ⟨4, _⟩ => ⟨S384x320, .f32⟩
  | .local _ .vmem, ⟨5, _⟩ => ⟨S384x320, .f32⟩
  | _, _ => ⟨S3x262144x384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3x262144x384 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x2048x384 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x262144x320 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x2048x320 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S384x320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S384x320 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Scale.lean ====
/-
  THE SCALE OF A BLOCK. The kernel turns a scale byte `e` into a float by writing `e` into the exponent field of a
  32-bit word (`e << 23`) and reading that word as a float; the reference computes `2 ^ (e - 127)`, with zero where that
  is below the least normal float (byte 0) and infinity where it is above the greatest (byte 255). Over the extended
  reals the two are the same for every byte (`scale_eq`).
-/
module

public import Idealize.ShloMosaic.PureOps.Ideal
public import Idealize.ShloMosaic.Lib.ValueIdx

@[expose] public section

noncomputable section

namespace Cert.Proof

open Idealize.ShloMosaic Idealize.ShloMosaic.ValueIdx

/-- The kernel's scale of a byte: the 32-bit word with the byte in its exponent field, read as a float. -/
def wordScale (e : BitVec 8) : EReal := Ideal.ofBits .f32 (IntOp.shli .vector (e.setWidth 32) 23#32)

/-- The reference's scale of a byte: two to the power of the byte less 127, zero if that exponent is below -126 (the word
    of 4294967170) and infinity if it is above 127. -/
def powerScale (e : BitVec 8) : EReal :=
  Scalar.select (IntOp.cmpi .slt (e.setWidth 32 - 127#32) 4294967170#32) (Ideal.ofBits .f32 0x00000000#32)
    (Scalar.select (IntOp.cmpi .sgt (e.setWidth 32 - 127#32) 127#32) (Ideal.ofBits .f32 0x7F800000#32)
      (Ideal.exp2 (((e.setWidth 32 - 127#32).toInt : ℝ) : EReal)))

/-- The zero word read as a float is zero. -/
theorem ofBits_zero : Ideal.ofBits .f32 0x00000000#32 = 0 := by simp [Ideal.ofBits, Ideal.ieee]

/-- The shift is by less than the word's width, so it is the plain shift. -/
theorem shl_word (e : BitVec 8) : IntOp.shli .vector (e.setWidth 32) 23#32 = (e.setWidth 32) <<< (23#32) := by
  simp [IntOp.shli]

/-- The fields of the shifted word: sign 0, exponent the byte, fraction 0. -/
theorem word_fields : ∀ e : BitVec 8,
    (((e.setWidth 32) <<< (23#32)).extractLsb' 31 1 = 0#1) ∧ (((e.setWidth 32) <<< (23#32)).extractLsb' 23 8 = e)
      ∧ (((e.setWidth 32) <<< (23#32)).extractLsb' 0 23 = 0#23) := by
  decide +kernel

/-- The byte less 127, as an integer. -/
theorem byte_sub : ∀ e : BitVec 8, (e.setWidth 32 - 127#32).toInt = (e.toNat : ℤ) - 127 := by
  decide +kernel

/-- The reference's first comparison picks out byte 0, -/
theorem below_eq : ∀ e : BitVec 8, IntOp.cmpi .slt (e.setWidth 32 - 127#32) 4294967170#32 = if e.toNat = 0 then 1#1 else 0#1 := by
  decide +kernel

/-- and its second byte 255. -/
theorem above_eq : ∀ e : BitVec 8, IntOp.cmpi .sgt (e.setWidth 32 - 127#32) 127#32 = if e.toNat = 255 then 1#1 else 0#1 := by
  decide +kernel

/-- For a byte from 1 to 254 the kernel's scale is `2 ^ (e - 127)`. -/
theorem wordScale_normal (e : BitVec 8) (h1 : 1 ≤ e.toNat) (h2 : e.toNat ≤ 254) :
    wordScale e = Ideal.exp2 (((e.setWidth 32 - 127#32).toInt : ℝ) : EReal) := by
  unfold wordScale
  rw [shl_word, byte_sub, Ideal.exp2_coe]
  obtain ⟨hs, he, hf⟩ := word_fields e
  show Ideal.ieee 8 23 ((e.setWidth 32) <<< (23#32)) = _
  unfold Ideal.ieee
  simp only [hs, he, hf]
  rw [if_neg (by norm_num; omega), if_neg (by omega)]
  congr 1
  have hp : Real.rpow 2 (((e.toNat : ℤ) - 127 : ℤ) : ℝ) = (2 : ℝ) ^ ((e.toNat : ℤ) - 127) := Real.rpow_intCast 2 _
  rw [hp]
  have h23 : (2 : ℝ) ^ ((e.toNat : ℤ) - 127) = 2 ^ (23 : ℕ) * (2 : ℝ) ^ ((e.toNat : ℤ) - 127 - 23) := by
    rw [← zpow_natCast, ← zpow_add₀ (by norm_num)]; congr 1; push_cast; ring
  rw [h23]
  norm_num

/-- The kernel's scale is the reference's, for every byte. -/
theorem scale_eq (e : BitVec 8) : wordScale e = powerScale e := by
  unfold powerScale
  rw [below_eq, above_eq]
  by_cases h0 : e.toNat = 0
  · obtain rfl : e = 0#8 := BitVec.eq_of_toNat_eq h0
    rw [if_pos h0, select_one]
    rfl
  by_cases h1 : e.toNat = 255
  · obtain rfl : e = 255#8 := BitVec.eq_of_toNat_eq h1
    rw [if_neg h0, select_zero, if_pos h1, select_one]
    rfl
  have := e.isLt
  rw [if_neg h0, if_neg h1, select_zero, select_zero]
  exact wordScale_normal e (by omega) (by omega)

end Cert.Proof

end
-- ==== Proof.Dequant.lean ====
/-
  DEQUANTIZATION, READ AT AN INDEX. Both programs multiply each code by the scale of the block of 128 rows it is in, the
  kernel on a tile of 4096 rows folded into 32 blocks, the reference on the three arrays folded into 2048 blocks each.
  The theorems here say which code and which scale each element of the two products is. A row is numbered through all
  three arrays: row `R` is row `R % 262144` of array `R / 262144`, and its block is block `R / 128` of all the blocks.
-/
module

public import Idealize.ShloMosaic.PureOps.Ideal
public import Idealize.ShloMosaic.Lib.Pipeline.Value
public import Idealize.ShloMosaic.Lib.ValueIdx

@[expose] public section

noncomputable section

namespace Cert.Proof

open Idealize.ShloMosaic Idealize.ShloMosaic.ValueIdx

variable {α : Type} {C : ℕ}

/-- The kernel's tile: the product of the folded codes and the broadcast scales, unfolded again, is at row `r` the code
    of row `r` times the scale of block `r / 128`. -/
theorem tile_apply (x : (⟨2, ![4096, C]⟩ : Shape).Idx → EReal) (s : (⟨2, ![32, C]⟩ : Shape).Idx → EReal)
    (h1 : (⟨2, ![4096, C]⟩ : Shape).ShapeCasts ⟨3, ![32, 128, C]⟩) (h2 : (⟨2, ![32, C]⟩ : Shape).ShapeCasts ⟨3, ![32, 1, C]⟩)
    (h3 : (⟨3, ![32, 1, C]⟩ : Shape).Broadcasts ⟨3, ![32, 128, C]⟩) (h4 : (⟨3, ![32, 128, C]⟩ : Shape).ShapeCasts ⟨2, ![4096, C]⟩)
    (hC : C ≠ 1) (r : Fin 4096) (i : Fin C) :
    shapeCast ⟨2, ![4096, C]⟩ (fun j => shapeCast ⟨3, ![32, 128, C]⟩ x h1 j
        * broadcastTo ⟨3, ![32, 128, C]⟩ (shapeCast ⟨3, ![32, 1, C]⟩ s h2) h3 j) h4 (ix2 r i)
      = x (ix2 r i) * s (ix2 (⟨r.val / 128, by omega⟩ : Fin 32) i) := by
  have hr : r.val / 128 * 128 + r.val % 128 = r.val := by omega
  rw [shapeCast_apply _ h4 (ix2 r i) (ix3 (⟨r.val / 128, by omega⟩ : Fin 32) (⟨r.val % 128, by omega⟩ : Fin 128) i) (by
    rw [Shape.rowMajor_val_three, Shape.rowMajor_val_two]
    show (r.val / 128 * 128 + r.val % 128) * C + i.val = r.val * C + i.val
    rw [hr])]
  congr 1
  · refine shapeCast_apply x h1 _ _ ?_
    rw [Shape.rowMajor_val_three, Shape.rowMajor_val_two]
    show r.val * C + i.val = (r.val / 128 * 128 + r.val % 128) * C + i.val
    rw [hr]
  · refine (broadcastTo_apply _ h3 _ (ix3 (⟨r.val / 128, by omega⟩ : Fin 32) (0 : Fin 1) i) (fun a => match a with
      | ⟨0, _⟩ => rfl
      | ⟨1, _⟩ => rfl
      | ⟨2, _⟩ => (if_neg hC).symm)).trans ?_
    refine shapeCast_apply s h2 _ _ ?_
    rw [Shape.rowMajor_val_three, Shape.rowMajor_val_two]
    show r.val / 128 * C + i.val = (r.val / 128 * 1 + 0) * C + i.val
    rw [Nat.mul_one, Nat.add_zero]

/-- The reference's arrays: the product of the folded codes and the broadcast scales is, at row `t` of block `n` of array
    `b`, the code of row `128 n + t` times the scale of block `n`. -/
theorem folded_apply (x : (⟨3, ![3, 262144, C]⟩ : Shape).Idx → EReal) (s : (⟨3, ![3, 2048, C]⟩ : Shape).Idx → EReal)
    (h1 : (⟨3, ![3, 262144, C]⟩ : Shape).ShapeCasts ⟨4, ![3, 2048, 128, C]⟩) (h2 : (⟨3, ![3, 2048, C]⟩ : Shape).ShapeCasts ⟨4, ![3, 2048, 1, C]⟩)
    (h3 : (⟨4, ![3, 2048, 1, C]⟩ : Shape).Broadcasts ⟨4, ![3, 2048, 128, C]⟩)
    (hC : C ≠ 1) (b : Fin 3) (n : Fin 2048) (t : Fin 128) (i : Fin C) :
    shapeCast ⟨4, ![3, 2048, 128, C]⟩ x h1 (ix4 b n t i)
        * broadcastTo ⟨4, ![3, 2048, 128, C]⟩ (shapeCast ⟨4, ![3, 2048, 1, C]⟩ s h2) h3 (ix4 b n t i)
      = x (ix3 b (⟨128 * n.val + t.val, by omega⟩ : Fin 262144) i) * s (ix3 b n i) := by
  congr 1
  · refine shapeCast_apply x h1 _ _ ?_
    rw [Shape.rowMajor_val_three, Shape.rowMajor_val_four]
    show (b.val * 262144 + (128 * n.val + t.val)) * C + i.val = ((b.val * 2048 + n.val) * 128 + t.val) * C + i.val
    rw [show b.val * 262144 + (128 * n.val + t.val) = (b.val * 2048 + n.val) * 128 + t.val from by omega]
  · refine (broadcastTo_apply _ h3 _ (ix4 b n (0 : Fin 1) i) (fun a => match a with
      | ⟨0, _⟩ => rfl
      | ⟨1, _⟩ => rfl
      | ⟨2, _⟩ => rfl
      | ⟨3, _⟩ => (if_neg hC).symm)).trans ?_
    refine shapeCast_apply s h2 _ _ ?_
    rw [Shape.rowMajor_val_three, Shape.rowMajor_val_four]
    show (b.val * 2048 + n.val) * C + i.val = ((b.val * 2048 + n.val) * 1 + 0) * C + i.val
    rw [Nat.mul_one, Nat.add_zero]

/-- The three arrays' rows as one list: row `R` of it is row `R % 262144` of array `R / 262144`. -/
theorem rows_apply (x : (⟨3, ![3, 262144, C]⟩ : Shape).Idx → α) (h : (⟨3, ![3, 262144, C]⟩ : Shape).ShapeCasts ⟨2, ![786432, C]⟩)
    (R : Fin 786432) (i : Fin C) :
    shapeCast ⟨2, ![786432, C]⟩ x h (ix2 R i)
      = x (ix3 (⟨R.val / 262144, by omega⟩ : Fin 3) (⟨R.val % 262144, by omega⟩ : Fin 262144) i) := by
  refine shapeCast_apply x h _ _ ?_
  rw [Shape.rowMajor_val_three, Shape.rowMajor_val_two]
  show (R.val / 262144 * 262144 + R.val % 262144) * C + i.val = R.val * C + i.val
  rw [show R.val / 262144 * 262144 + R.val % 262144 = R.val from by omega]

/-- The three arrays' blocks as one list: block `B` of it is block `B % 2048` of array `B / 2048`. -/
theorem blocks_apply (s : (⟨3, ![3, 2048, C]⟩ : Shape).Idx → α) (h : (⟨3, ![3, 2048, C]⟩ : Shape).ShapeCasts ⟨2, ![6144, C]⟩)
    (B : Fin 6144) (i : Fin C) :
    shapeCast ⟨2, ![6144, C]⟩ s h (ix2 B i)
      = s (ix3 (⟨B.val / 2048, by omega⟩ : Fin 3) (⟨B.val % 2048, by omega⟩ : Fin 2048) i) := by
  refine shapeCast_apply s h _ _ ?_
  rw [Shape.rowMajor_val_three, Shape.rowMajor_val_two]
  show (B.val / 2048 * 2048 + B.val % 2048) * C + i.val = B.val * C + i.val
  rw [show B.val / 2048 * 2048 + B.val % 2048 = B.val from by omega]

/-- Row `R` of the dequantized arrays at column `i`: the code times the scale of its block, `f` giving a byte's scale. -/
def row (f : BitVec 8 → EReal) (x : (⟨3, ![3, 262144, C]⟩ : Shape).Idx → EReal) (s : (⟨3, ![3, 2048, C]⟩ : Shape).Idx → BitVec 8)
    (R : Fin 786432) (i : Fin C) : EReal :=
  x (ix3 (⟨R.val / 262144, by omega⟩ : Fin 3) (⟨R.val % 262144, by omega⟩ : Fin 262144) i)
    * f (s (ix3 (⟨R.val / 128 / 2048, by omega⟩ : Fin 3) (⟨R.val / 128 % 2048, by omega⟩ : Fin 2048) i))

/-- Two ways of giving a byte's scale that agree on all the bytes of `s` give the same dequantized rows. -/
theorem row_congr {f g : BitVec 8 → EReal} (x : (⟨3, ![3, 262144, C]⟩ : Shape).Idx → EReal) (s : (⟨3, ![3, 2048, C]⟩ : Shape).Idx → BitVec 8)
    (h : ∀ j, f (s j) = g (s j)) (R : Fin 786432) (i : Fin C) : row f x s R i = row g x s R i := by
  unfold row; rw [h]

end Cert.Proof

end
-- ==== Proof.KernelValue.lean ====
/-
  THE KERNEL'S RESULT. Each grid point adds to the accumulator the product of one tile of 4096 rows, transposed, with the
  matching tile of 4096 rows (`pay_apply`); the tile of point `t` is rows `4096 t … 4096 t + 4095` of the three arrays
  laid end to end (`iblk0_apply` … `iblk3_apply`); so the result is the main gradient plus the sum over the 192 points of
  the sums over their 4096 rows (`result_apply`).
-/
module

public import proofs.«01_k».proof.Proof.Scale
public import proofs.«01_k».proof.Proof.Dequant
public import proofs.«01_k».proof.Proof.Gen.KernelIdeal.Value
public import Idealize.ShloMosaic.Lib.StableHlo.Run
public import Idealize.ShloMosaic.Lib.MatmulPlain

@[expose] public section

noncomputable section

namespace Cert.Proof.Kernel

open Idealize.ShloMosaic Idealize.ShloMosaic.TcCoe Idealize.SL.Sem Idealize.ShloMosaic.ValueIdx
open Cert.KernelIdeal Cert.KernelIdeal.Gen
open scoped BigOperators

/-! ## One grid point's product -/

/-- The contraction of the tile product: over the 4096 rows. -/
abbrev D : DotDims S4096x384 S4096x320 S384x320 := dot_S4096x384_S4096x320_S384x320_0_0_1_1_n_n

/-- One axis is contracted, -/
theorem D_rank : D.contr.rank = 1 := rfl
/-- of 4096 rows. -/
theorem D_size : D.contr.size ⟨0, by rw [D_rank]; exact Nat.one_pos⟩ = 4096 := rfl

/-- The product of two tiles at `(p, q)`: the sum over the rows of the products of column `p` of the first and column `q`
    of the second. -/
theorem matmul_apply (x : FVec Ideal S4096x384 .bf16) (y : FVec Ideal S4096x320 .bf16) (a : FVec Ideal S384x320 .f32)
    (p : Fin 384) (q : Fin 320) :
    matmul D none x y a (ix2 p q) = a (ix2 p q) + ∑ r : Fin 4096, x (ix2 r p) * y (ix2 r q) := by
  show FloatOps.matmul D none x y a (ix2 p q) = _
  rw [Ideal.matmul_apply, ← Equiv.sum_comp (contrEquiv1 D 4096 D_rank D_size).symm]
  refine congrArg (a (ix2 p q) + ·) (Finset.sum_congr rfl fun k _ => ?_)
  have hk := contrEquiv1_symm_val D 4096 D_rank D_size k
  have el : D.lhsIdx (ix2 p q) ((contrEquiv1 D 4096 D_rank D_size).symm k) = ix2 k p := by
    funext a; apply Fin.ext
    match a with
    | ⟨0, _⟩ => exact hk
    | ⟨1, _⟩ => rfl
  have er : D.rhsIdx (ix2 p q) ((contrEquiv1 D 4096 D_rank D_size).symm k) = ix2 k q := by
    funext a; apply Fin.ext
    match a with
    | ⟨0, _⟩ => exact hk
    | ⟨1, _⟩ => rfl
  rw [el, er]

/-- What one grid point leaves at `(p, q)`: the accumulator plus the sum, over the tile's rows, of the products of the
    two dequantized elements. -/
theorem pay_apply (x : Vec Ideal S4096x384 .fp8e4m3) (s : Vec Ideal S32x384 .i8) (y : Vec Ideal S4096x320 .fp8e5m2)
    (u : Vec Ideal S32x320 .i8) (a : Vec Ideal S384x320 .f32) (p : Fin 384) (q : Fin 320) :
    k0_pay1 (F := Ideal) x s y u a (ix2 p q) = a (ix2 p q) + ∑ r : Fin 4096,
      (x (ix2 r p) * wordScale (s (ix2 (⟨r.val / 128, by omega⟩ : Fin 32) p)))
        * (y (ix2 r q) * wordScale (u (ix2 (⟨r.val / 128, by omega⟩ : Fin 32) q))) := by
  unfold k0_pay1
  simp only [shapeCast_self]
  rw [addf_apply, matmul_apply, constant_apply, ofBits_zero, zero_add]
  refine congrArg (a (ix2 p q) + ·) (Finset.sum_congr rfl fun r _ => congr (congrArg _ ?_) ?_)
  · exact tile_apply (C := 384) x (fun j => wordScale (s j)) _ _ _ _ (by decide) r p
  · exact tile_apply (C := 320) y (fun j => wordScale (u j)) _ _ _ _ (by decide) r q

/-! ## The tile of each grid point -/

variable (m : (ℓ : Loc nD τ sig) → Buf (Elt Ideal) ℓ)

/-- The first operand as the grid finds it: the three arrays' rows laid end to end; -/
theorem V_main_v0 (c : Dev nD) : V m c main_v0
    = shapeCast S786432x384 (m ((c : Thread nD τ).loc main_arg0)) shapeCasts_S3x262144x384_S786432x384 := by
  first | rfl | (simp only [V, StableHlo.after, hostOps0]; rfl)
/-- its scales; -/
theorem V_main_v2 (c : Dev nD) : V m c main_v2
    = shapeCast S6144x384 (m ((c : Thread nD τ).loc main_arg1)) shapeCasts_S3x2048x384_S6144x384 := by
  rfl
/-- the second operand; -/
theorem V_main_v1 (c : Dev nD) : V m c main_v1
    = shapeCast S786432x320 (m ((c : Thread nD τ).loc main_arg2)) shapeCasts_S3x262144x320_S786432x320 := by
  rfl
/-- and its scales. -/
theorem V_main_v3 (c : Dev nD) : V m c main_v3
    = shapeCast S6144x320 (m ((c : Thread nD τ).loc main_arg3)) shapeCasts_S3x2048x320_S6144x320 := by
  rfl

/-- Where each window's block is at point `t`: block row `t` for the four operands, the one block for the main gradient. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0) :=
  (by decide +kernel : ∀ t : Fin grid0.N, _)

/-- The grid has 192 points. -/
theorem lt_grid (t : Fin cfg0.N) : t.val < 192 := lt_of_lt_of_eq t.isLt (show cfg0.N = 192 from N_0)

/-- Row `r` of point `t`'s tile, among all the rows. -/
abbrev rowOf (t : Fin cfg0.N) (r : Fin 4096) : Fin 786432 := ⟨t.val * 4096 + r.val, by have := lt_grid t; omega⟩
/-- Block `b` of point `t`'s tile, among all the blocks. -/
abbrev blockOf (t : Fin cfg0.N) (b : Fin 32) : Fin 6144 := ⟨t.val * 32 + b.val, by have := lt_grid t; omega⟩

/-- The first operand's tile at point `t`, row `r`; -/
theorem iblk0_apply (c : Dev nD) (t : Fin cfg0.N) (r : Fin 4096) (p : Fin 384) :
    (iblk m c 0 t : Vec Ideal S4096x384 .fp8e4m3) (ix2 r p)
      = shapeCast S786432x384 (m ((c : Thread nD τ).loc main_arg0)) shapeCasts_S3x262144x384_S786432x384 (ix2 (rowOf t r) p) := by
  obtain ⟨⟨e0, e1⟩, -⟩ := index_facts t
  refine Eq.trans ?_ (congrFun (V_main_v0 m c) (ix2 (rowOf t r) p))
  unfold iblk
  rw [View.read_apply]
  show V m c main_v0 _ = V m c main_v0 _
  congr 1
  funext a
  apply Fin.ext
  match a with
  | ⟨0, _⟩ => show win0_0.index t (0 : Fin 2) * 4096 + 1 * r.val = t.val * 4096 + r.val; rw [e0]; omega
  | ⟨1, _⟩ => show win0_0.index t (1 : Fin 2) * 384 + 1 * p.val = p.val; rw [e1]; omega

/-- its scales, at block `b`; -/
theorem iblk1_apply (c : Dev nD) (t : Fin cfg0.N) (b : Fin 32) (p : Fin 384) :
    (iblk m c 1 t : Vec Ideal S32x384 .i8) (ix2 b p)
      = shapeCast S6144x384 (m ((c : Thread nD τ).loc main_arg1)) shapeCasts_S3x2048x384_S6144x384 (ix2 (blockOf t b) p) := by
  obtain ⟨-, ⟨e0, e1⟩, -⟩ := index_facts t
  refine Eq.trans ?_ (congrFun (V_main_v2 m c) (ix2 (blockOf t b) p))
  unfold iblk
  rw [View.read_apply]
  show V m c main_v2 _ = V m c main_v2 _
  congr 1
  funext a
  apply Fin.ext
  match a with
  | ⟨0, _⟩ => show win0_1.index t (0 : Fin 2) * 32 + 1 * b.val = t.val * 32 + b.val; rw [e0]; omega
  | ⟨1, _⟩ => show win0_1.index t (1 : Fin 2) * 384 + 1 * p.val = p.val; rw [e1]; omega

/-- the second operand's tile; -/
theorem iblk2_apply (c : Dev nD) (t : Fin cfg0.N) (r : Fin 4096) (q : Fin 320) :
    (iblk m c 2 t : Vec Ideal S4096x320 .fp8e5m2) (ix2 r q)
      = shapeCast S786432x320 (m ((c : Thread nD τ).loc main_arg2)) shapeCasts_S3x262144x320_S786432x320 (ix2 (rowOf t r) q) := by
  obtain ⟨-, -, ⟨e0, e1⟩, -⟩ := index_facts t
  refine Eq.trans ?_ (congrFun (V_main_v1 m c) (ix2 (rowOf t r) q))
  unfold iblk
  rw [View.read_apply]
  show V m c main_v1 _ = V m c main_v1 _
  congr 1
  funext a
  apply Fin.ext
  match a with
  | ⟨0, _⟩ => show win0_2.index t (0 : Fin 2) * 4096 + 1 * r.val = t.val * 4096 + r.val; rw [e0]; omega
  | ⟨1, _⟩ => show win0_2.index t (1 : Fin 2) * 320 + 1 * q.val = q.val; rw [e1]; omega

/-- its scales; -/
theorem iblk3_apply (c : Dev nD) (t : Fin cfg0.N) (b : Fin 32) (q : Fin 320) :
    (iblk m c 3 t : Vec Ideal S32x320 .i8) (ix2 b q)
      = shapeCast S6144x320 (m ((c : Thread nD τ).loc main_arg3)) shapeCasts_S3x2048x320_S6144x320 (ix2 (blockOf t b) q) := by
  obtain ⟨-, -, -, ⟨e0, e1⟩, -⟩ := index_facts t
  refine Eq.trans ?_ (congrFun (V_main_v3 m c) (ix2 (blockOf t b) q))
  unfold iblk
  rw [View.read_apply]
  show V m c main_v3 _ = V m c main_v3 _
  congr 1
  funext a
  apply Fin.ext
  match a with
  | ⟨0, _⟩ => show win0_3.index t (0 : Fin 2) * 32 + 1 * b.val = t.val * 32 + b.val; rw [e0]; omega
  | ⟨1, _⟩ => show win0_3.index t (1 : Fin 2) * 320 + 1 * q.val = q.val; rw [e1]; omega

/-- and the main gradient, whole at every point. -/
theorem iblk4_apply (c : Dev nD) (t : Fin cfg0.N) (p : Fin 384) (q : Fin 320) :
    (iblk m c 4 t : Vec Ideal S384x320 .f32) (ix2 p q) = m ((c : Thread nD τ).loc main_arg4) (ix2 p q) := by
  obtain ⟨-, -, -, -, ⟨e0, e1⟩⟩ := index_facts t
  refine Eq.trans ?_ (congrFun (V_main_arg4 m c) (ix2 p q))
  unfold iblk
  rw [View.read_apply]
  show V m c main_arg4 _ = V m c main_arg4 _
  congr 1
  funext a
  apply Fin.ext
  match a with
  | ⟨0, _⟩ => show win0_4.index t (0 : Fin 2) * 384 + 1 * p.val = p.val; rw [e0]; omega
  | ⟨1, _⟩ => show win0_4.index t (1 : Fin 2) * 320 + 1 * q.val = q.val; rw [e1]; omega

/-- Row `R`'s product at `(p, q)`: the two dequantized elements multiplied, by the kernel's scales. -/
def term (c : Dev nD) (p : Fin 384) (q : Fin 320) (R : Fin 786432) : EReal :=
  row (C := 384) wordScale (m ((c : Thread nD τ).loc main_arg0)) (m ((c : Thread nD τ).loc main_arg1)) R p
    * row (C := 320) wordScale (m ((c : Thread nD τ).loc main_arg2)) (m ((c : Thread nD τ).loc main_arg3)) R q

/-- What point `t` makes of an accumulator: it adds the products of its 4096 rows. -/
theorem point_apply (c : Dev nD) (t : Fin cfg0.N) (a : Vec Ideal S384x320 .f32) (p : Fin 384) (q : Fin 320) :
    k0_pay1 (F := Ideal) (iblk m c 0 t) (iblk m c 1 t) (iblk m c 2 t) (iblk m c 3 t) a (ix2 p q)
      = a (ix2 p q) + ∑ r : Fin 4096, term m c p q (rowOf t r) := by
  rw [pay_apply]
  refine congrArg (a (ix2 p q) + ·) (Finset.sum_congr rfl fun r _ => ?_)
  rw [iblk0_apply, iblk1_apply, iblk2_apply, iblk3_apply, rows_apply, rows_apply, blocks_apply, blocks_apply]
  have e : t.val * 32 + r.val / 128 = (t.val * 4096 + r.val) / 128 := by omega
  unfold term row
  congr 3 <;> (congr 1; congr 1 <;> (apply Fin.ext; dsimp only; rw [e]))

/-! ## The result -/

/-- The main gradient, as an array of extended reals. -/
def mainGrad (c : Dev nD) : S384x320.Idx → EReal := m ((c : Thread nD τ).loc main_arg4)

/-- The kernel's result at `(p, q)`: the main gradient plus the sum over the grid's points of their rows' products. -/
theorem result_apply (c : Dev nD) (p : Fin 384) (q : Fin 320) :
    Cert.KernelIdeal.Value.G5 m c (ix2 p q) = mainGrad m c (ix2 p q)
      + ∑ t : Fin 192, ∑ r : Fin 4096, term m c p q ⟨t.val * 4096 + r.val, by omega⟩ := by
  have hN : cfg0.N = 192 := N_0
  have hrun : Cert.KernelIdeal.Value.run5Of (ix2 p q) = 0 := by
    show 1 * (p.val / 384 - 0) + 1 * (q.val / 320 - 0) = 0
    omega
  have hloc : Cert.KernelIdeal.Value.loc5Of (ix2 p q) = ix2 p q := by
    funext a; apply Fin.ext
    match a with
    | ⟨0, _⟩ => show p.val % 384 = p.val; omega
    | ⟨1, _⟩ => show q.val % 320 = q.val; omega
  unfold Cert.KernelIdeal.Value.G5
  rw [dif_pos (by rw [hrun, hN]; decide), hloc]
  let M : ℕ → S384x320.Idx → EReal := fun n i =>
    if h : n < 192 then ∑ r : Fin 4096, term m c (i 0) (i 1) ⟨n * 4096 + r.val, by omega⟩ else 0
  have hM : ∀ (n : ℕ) (h : n < cfg0.N) (a : Vec Ideal S384x320 .f32) (i : S384x320.Idx),
      k0_pay1 (F := Ideal) (iblk m c 0 ⟨n, h⟩) (iblk m c 1 ⟨n, h⟩) (iblk m c 2 ⟨n, h⟩) (iblk m c 3 ⟨n, h⟩) a i = a i + M n i := by
    intro n h a i
    have hi : i = ix2 (i 0) (i 1) := eq_ix2 i
    have hn : n < 192 := lt_of_lt_of_eq h hN
    show _ = a i + (if h : n < 192 then ∑ r : Fin 4096, term m c (i 0) (i 1) ⟨n * 4096 + r.val, by omega⟩ else 0)
    rw [dif_pos hn]
    generalize i 0 = p' at hi ⊢
    generalize i 1 = q' at hi ⊢
    subst hi
    exact point_apply m c ⟨n, h⟩ a p' q'
  rw [Pipeline.accAt_add_apply (Cert.KernelIdeal.Value.reset5 m c) (Cert.KernelIdeal.Value.step5 m c)
    (mainGrad m c) M _ 191
    (fun h i => by
      rw [Cert.KernelIdeal.Value.reset5, hM]
      rw [eq_ix2 i]
      exact congrArg (· + _) (iblk4_apply m c _ (i 0) (i 1)))
    (fun n h acc i _ _ => hM n h acc i) 191 le_rfl, hrun, Finset.sum_range]
  refine congrArg (mainGrad m c (ix2 p q) + ·) (Finset.sum_congr rfl fun t _ => ?_)
  show (if h : 192 * 0 + t.val < 192 then ∑ r : Fin 4096, term m c p q ⟨(192 * 0 + t.val) * 4096 + r.val, by omega⟩ else 0) = _
  rw [dif_pos (by omega)]
  refine Finset.sum_congr rfl fun r _ => congrArg _ (Fin.ext ?_)
  show (192 * 0 + t.val) * 4096 + r.val = t.val * 4096 + r.val
  omega

end Cert.Proof.Kernel

end
-- ==== Proof.RefValue.lean ====
/-
  THE REFERENCE'S RESULT: the main gradient plus one sum over arrays, blocks and rows of a block, of the products of the
  two dequantized elements (`result_apply`).
-/
module

public import proofs.«01_k».proof.Proof.Scale
public import proofs.«01_k».proof.Proof.Dequant
public import proofs.«01_k».proof.Proof.Gen.ReferenceIdeal.Value
public import Idealize.ShloMosaic.Lib.MatmulPlain

@[expose] public section

noncomputable section

namespace Cert.Proof.Reference

open Idealize.ShloMosaic Idealize.ShloMosaic.ValueIdx
open Cert.ReferenceIdeal Cert.ReferenceIdeal.Gen
open scoped BigOperators

/-- The contraction: over arrays, blocks and rows of a block. -/
abbrev D : DotDims S3x2048x128x384 S3x2048x128x320 S384x320 := dot_S3x2048x128x384_S3x2048x128x320_S384x320_012_012_3_3_n_n

/-- The indices of the contraction as a shape: 3 arrays of 2048 blocks of 128 rows. -/
abbrev SC : Shape := ⟨3, ![3, 2048, 128]⟩

/-- Three axes are contracted, -/
theorem D_rank : D.contr.rank = 3 := rfl

/-- so an index of the contraction is an index of that shape. -/
def contrEquiv : D.contr.Idx ≃ SC.Idx where
  toFun k := ix3 (k ⟨0, by rw [D_rank]; decide⟩) (k ⟨1, by rw [D_rank]; decide⟩) (k ⟨2, by rw [D_rank]; decide⟩)
  invFun j := fun a => match a with
    | ⟨0, _⟩ => j 0
    | ⟨1, _⟩ => j 1
    | ⟨2, _⟩ => j 2
  left_inv k := by funext a; match a with | ⟨0, _⟩ => rfl | ⟨1, _⟩ => rfl | ⟨2, _⟩ => rfl
  right_inv j := by funext a; match a with | ⟨0, _⟩ => rfl | ⟨1, _⟩ => rfl | ⟨2, _⟩ => rfl

/-- The product of the two folded operands at `(p, q)`: the sum over all rows of the products of column `p` of the first
    and column `q` of the second. -/
theorem matmul_apply (x : FVec Ideal S3x2048x128x384 .bf16) (y : FVec Ideal S3x2048x128x320 .bf16) (a : FVec Ideal S384x320 .f32)
    (p : Fin 384) (q : Fin 320) :
    matmul D none x y a (ix2 p q)
      = a (ix2 p q) + ∑ j : SC.Idx, x (ix4 (j 0) (j 1) (j 2) p) * y (ix4 (j 0) (j 1) (j 2) q) := by
  show FloatOps.matmul D none x y a (ix2 p q) = _
  rw [Ideal.matmul_apply, ← Equiv.sum_comp contrEquiv.symm]
  refine congrArg (a (ix2 p q) + ·) (Finset.sum_congr rfl fun j _ => ?_)
  have el : D.lhsIdx (ix2 p q) (contrEquiv.symm j) = ix4 (j 0) (j 1) (j 2) p := by
    funext a; apply Fin.ext
    match a with
    | ⟨0, _⟩ => rfl
    | ⟨1, _⟩ => rfl
    | ⟨2, _⟩ => rfl
    | ⟨3, _⟩ => rfl
  have er : D.rhsIdx (ix2 p q) (contrEquiv.symm j) = ix4 (j 0) (j 1) (j 2) q := by
    funext a; apply Fin.ext
    match a with
    | ⟨0, _⟩ => rfl
    | ⟨1, _⟩ => rfl
    | ⟨2, _⟩ => rfl
    | ⟨3, _⟩ => rfl
  rw [el, er]
  rfl

/-- Row `R`'s product at `(p, q)`: the two dequantized elements multiplied, by the reference's scales. -/
def term (x : Vec Ideal S3x262144x384 .fp8e4m3) (s : Vec Ideal S3x2048x384 .i8) (y : Vec Ideal S3x262144x320 .fp8e5m2)
    (u : Vec Ideal S3x2048x320 .i8) (p : Fin 384) (q : Fin 320) (R : Fin 786432) : EReal :=
  row (C := 384) powerScale x s R p * row (C := 320) powerScale y u R q

/-- The row an index of the contraction names, among all the rows. -/
def rowOf (j : SC.Idx) : Fin 786432 :=
  ⟨((j 0).val * 2048 + (j 1).val) * 128 + (j 2).val, by
    have h0 : (j 0).val < 3 := (j 0).isLt
    have h1 : (j 1).val < 2048 := (j 1).isLt
    have h2 : (j 2).val < 128 := (j 2).isLt
    omega⟩

/-- A row of block `n` of array `b`, dequantized, is the row of that number among all the rows. -/
theorem row_rowOf {C : ℕ} (f : BitVec 8 → EReal) (x : (⟨3, ![3, 262144, C]⟩ : Shape).Idx → EReal)
    (s : (⟨3, ![3, 2048, C]⟩ : Shape).Idx → BitVec 8) (b : Fin 3) (n : Fin 2048) (t : Fin 128) (i : Fin C) :
    x (ix3 b (⟨128 * n.val + t.val, by omega⟩ : Fin 262144) i) * f (s (ix3 b n i)) = row f x s (rowOf (ix3 b n t)) i := by
  have e1 : ((b.val * 2048 + n.val) * 128 + t.val) / 262144 = b.val := by omega
  have e2 : ((b.val * 2048 + n.val) * 128 + t.val) % 262144 = 128 * n.val + t.val := by omega
  have e3 : ((b.val * 2048 + n.val) * 128 + t.val) / 128 / 2048 = b.val := by omega
  have e4 : ((b.val * 2048 + n.val) * 128 + t.val) / 128 % 2048 = n.val := by omega
  unfold row
  congr 2
  · congr 1 <;> apply Fin.ext
    · exact e1.symm
    · exact e2.symm
  · congr 2 <;> apply Fin.ext
    · exact e3.symm
    · exact e4.symm

/-- The reference's result at `(p, q)`: the main gradient plus the sum of the rows' products, a row per array, block and
    row of the block. -/
theorem result_apply (x : Vec Ideal S3x262144x384 .fp8e4m3) (s : Vec Ideal S3x2048x384 .i8) (y : Vec Ideal S3x262144x320 .fp8e5m2)
    (u : Vec Ideal S3x2048x320 .i8) (a : Vec Ideal S384x320 .f32) (p : Fin 384) (q : Fin 320) :
    Cert.ReferenceIdeal.Value.G5 (F := Ideal) x s y u a (ix2 p q) = a (ix2 p q) + ∑ j : SC.Idx, term x s y u p q (rowOf j) := by
  unfold Cert.ReferenceIdeal.Value.G5 k0_pay1 k0_pay2 k0_pay3 k0_pay4
  rw [addf_apply, matmul_apply, constant_apply, ofBits_zero, zero_add]
  refine congrArg (a (ix2 p q) + ·) (Finset.sum_congr rfl fun j _ => ?_)
  obtain ⟨b, n, t, rfl⟩ : ∃ (b : Fin 3) (n : Fin 2048) (t : Fin 128), j = ix3 b n t := ⟨j 0, j 1, j 2, eq_ix3 j⟩
  refine congr (congrArg _ ?_) ?_
  · exact (folded_apply (C := 384) x (fun j => powerScale (s j)) _ _ _ (by decide) b n t p).trans (row_rowOf powerScale x s b n t p)
  · exact (folded_apply (C := 320) y (fun j => powerScale (u j)) _ _ _ (by decide) b n t q).trans (row_rowOf powerScale y u b n t q)

end Cert.Proof.Reference

end
-- ==== Proof.Equation.lean ====
/-
  THE EQUATION. The kernel's result and the reference's are the main gradient plus the same 786432 products, one per row:
  the kernel takes them 4096 at a time over 192 grid points, the reference by array, block and row of the block. Addition
  of extended reals is commutative and associative, so the order does not matter (`sum_points`, `sum_rows`), and the two
  programs' scales are equal, so the products are (`result_eq`).
-/
module

public import proofs.«01_k».proof.Proof.KernelValue
public import proofs.«01_k».proof.Proof.RefValue

@[expose] public section

noncomputable section

namespace Cert.Proof

open Idealize.ShloMosaic Idealize.ShloMosaic.TcCoe Idealize.ShloMosaic.ValueIdx
open scoped BigOperators

/-- A sum over 192 points of 4096 rows each is the sum over all the rows. -/
theorem sum_points (f : Fin 786432 → EReal) :
    ∑ t : Fin 192, ∑ r : Fin 4096, f ⟨t.val * 4096 + r.val, by omega⟩ = ∑ R, f R := by
  rw [← Fintype.sum_prod_type' (f := fun (t : Fin 192) (r : Fin 4096) => f ⟨t.val * 4096 + r.val, by omega⟩)]
  refine Fintype.sum_bijective (fun z : Fin 192 × Fin 4096 => (⟨z.1.val * 4096 + z.2.val, by omega⟩ : Fin 786432)) ⟨?_, ?_⟩ _ _ (fun _ => rfl)
  · rintro ⟨t, r⟩ ⟨t', r'⟩ h
    have h' : t.val * 4096 + r.val = t'.val * 4096 + r'.val := congrArg Fin.val h
    exact Prod.ext (Fin.ext (by show t.val = t'.val; omega)) (Fin.ext (by show r.val = r'.val; omega))
  · intro R
    exact ⟨(⟨R.val / 4096, by omega⟩, ⟨R.val % 4096, by omega⟩), Fin.ext (by show R.val / 4096 * 4096 + R.val % 4096 = R.val; omega)⟩

/-- A sum over arrays, blocks and rows of a block is the sum over all the rows. -/
theorem sum_rows (f : Fin 786432 → EReal) : ∑ j : Reference.SC.Idx, f (Reference.rowOf j) = ∑ R, f R := by
  refine Fintype.sum_bijective Reference.rowOf ⟨?_, ?_⟩ _ _ (fun _ => rfl)
  · intro j j' h
    have h' : ((j 0).val * 2048 + (j 1).val) * 128 + (j 2).val = ((j' 0).val * 2048 + (j' 1).val) * 128 + (j' 2).val := congrArg Fin.val h
    have h1 : (j 1).val < 2048 := (j 1).isLt
    have h2 : (j 2).val < 128 := (j 2).isLt
    have h1' : (j' 1).val < 2048 := (j' 1).isLt
    have h2' : (j' 2).val < 128 := (j' 2).isLt
    funext a; apply Fin.ext
    match a with
    | ⟨0, _⟩ => show (j 0).val = (j' 0).val; omega
    | ⟨1, _⟩ => show (j 1).val = (j' 1).val; omega
    | ⟨2, _⟩ => show (j 2).val = (j' 2).val; omega
  · intro R
    exact ⟨ix3 (⟨R.val / 262144, by omega⟩ : Fin 3) (⟨R.val / 128 % 2048, by omega⟩ : Fin 2048) (⟨R.val % 128, by omega⟩ : Fin 128),
      Fin.ext (by show (R.val / 262144 * 2048 + R.val / 128 % 2048) * 128 + R.val % 128 = R.val; omega)⟩

/-- The kernel's result is the reference's, of the same arguments. -/
theorem result_eq (m : (ℓ : Loc Cert.KernelIdeal.nD Cert.KernelIdeal.τ Cert.KernelIdeal.sig) → Buf (Elt Ideal) ℓ) (c : Dev Cert.KernelIdeal.nD) :
    Cert.ReferenceIdeal.Value.G5 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
      = Cert.KernelIdeal.Value.G5 m c := by
  funext i
  obtain ⟨p, q, rfl⟩ : ∃ (p : Fin 384) (q : Fin 320), i = ix2 p q := ⟨i 0, i 1, eq_ix2 i⟩
  rw [Kernel.result_apply, sum_points]
  refine (Reference.result_apply _ _ _ _ _ p q).trans ?_
  rw [sum_rows]
  refine congrArg (Kernel.mainGrad m c (ix2 p q) + ·) (Finset.sum_congr rfl fun R _ => ?_)
  unfold Reference.term Kernel.term
  refine congr (congrArg _ ?_) ?_
  · exact (row_congr _ _ (fun _ => scale_eq _) R p).symm
  · exact (row_congr _ _ (fun _ => scale_eq _) R q).symm

end Cert.Proof

end
-- ==== Proof.lean ====
/-
  The proof of `Cert.Claim`: the kernel, its idealization and the reference's idealization run to completion, leave their
  arguments unchanged and every semaphore at zero; the idealization changed nothing; and over the extended reals the
  kernel's result is the reference's. The runs are the generated ones; that the two results are one array is
  Proof/Equation.lean.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Frame
public import proofs.«01_k».proof.Proof.Gen.ReferenceIdeal.Value
public import proofs.«01_k».proof.Proof.Equation

@[expose] public section

noncomputable section

namespace Cert.Proof

open Idealize.ShloMosaic Idealize.SL.Sem

/-- The value claim: the two idealizations, run from memories that agree on the arguments, end with the same result. -/
theorem algebraic : algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Value.G5 m c, Cert.KernelIdeal.Value.run m g, ?_⟩
  refine (θ_run _ _ _).mono (fun r h c => ⟨(h c).1.trans ?_, (h c).2⟩) (Cert.ReferenceIdeal.Value.run m' g')
  obtain ⟨h0, h1, h2, h3, h4⟩ := hagree c
  rw [h0, h1, h2, h3, h4]
  exact result_eq m c

/-- Everything the certificate claims. -/
theorem claim : Cert.Claim :=
  ⟨Cert.Kernel.Gen.facts, Cert.KernelIdeal.Gen.facts, Cert.ReferenceIdeal.Gen.facts,
    fun m g _ => Cert.Kernel.Gen.frame m g,
    fun m g _ => Cert.KernelIdeal.Gen.frame m g,
    fun m g _ => Cert.ReferenceIdeal.Gen.frame m g,
    trivial,
    algebraic⟩

end Cert.Proof

end
